-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 1024]⟩ (Layout.meshBlock [2, 2] ![[0], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![512]⟩ ⟨1, ![1024]⟩ (Layout.meshBlock [2, 2] ![[1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 512]⟩ ⟨2, ![2048, 1024]⟩ (Layout.meshBlock [2, 2] ![[0], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512 : Shape := ⟨1, ![512]⟩
abbrev S8x128 : Shape := ⟨2, ![8, 128]⟩
abbrev S_ : Shape := ⟨0, ![]⟩
abbrev S1024 : Shape := ⟨1, ![1024]⟩
abbrev S1024x1 : Shape := ⟨2, ![1024, 1]⟩
abbrev S1024x128 : Shape := ⟨2, ![1024, 128]⟩
abbrev S8x1024 : Shape := ⟨2, ![8, 1024]⟩
abbrev S1x512 : Shape := ⟨2, ![1, 512]⟩
abbrev S1024x8 : Shape := ⟨2, ![1024, 8]⟩

abbrev nBuf : Space → Nat
  | .hbm => 3
  | .vmem => 5
  | .smem => 0
  | _ => 0

abbrev bufTy : (tb : Table) → Fin (tcTables nBuf tb) → BufTy
  | .hbm, ⟨0, _⟩ => ⟨S1024x512, .f32⟩
  | .hbm, ⟨1, _⟩ => ⟨S512, .f32⟩
  | .hbm, ⟨2, _⟩ => ⟨S1024x512, .f32⟩
  | .local _ .vmem, ⟨0, _⟩ => ⟨S1024x512, .f32⟩
  | .local _ .vmem, ⟨1, _⟩ => ⟨S512, .f32⟩
  | .local _ .vmem, ⟨2, _⟩ => ⟨S1024x512, .f32⟩
  | .local _ .vmem, ⟨3, _⟩ => ⟨S8x128, .f32⟩
  | .local _ .vmem, ⟨4, _⟩ => ⟨S8x128, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  (ofTc nBuf bufTy 1 5 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_dev2 (d0 : Dev nD) : Nat :=
  let c0_i32_24 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_23 : BitVec 32 := 2#32
  let v73 : BitVec 32 := Scalar.muli v2 c2_i32_23
  let v74 : BitVec 32 := Scalar.addi c0_i32_24 v73
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_25 : BitVec 32 := 1#32
  let v75 : BitVec 32 := Scalar.muli v6 c1_i32_25
  let v76 : BitVec 32 := Scalar.addi v74 v75
  v76.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S1x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Meeting.lean ====
/-
# The meeting of two row mates: who pays which semaphore, and with what

The mesh is 2 × 2 and device `c` has logical id `2 i + j`. Its block of `x` is 1024 rows of 512 columns, and the other
512 columns of the same rows lie with its row mate `(i, 1 - j)`. Each device meets its mate once:

  * it signals the mate's barrier semaphore, which says that its own landing buffer may be written;
  * it packs its 1024 row sums of squares in an 8 × 128 buffer;
  * it waits on its own barrier semaphore, then copies the packed sums into the mate's landing buffer;
  * it waits for its own copy to have left, and for the mate's copy to have arrived.

Three semaphores per device take part, here numbered `0` (barrier), `1` (sent), `2` (arrived). Each is paid once, so the
schedule has one round and one duty per semaphore. This module states the schedule: how many units a payment brings,
what memory it hands over, what that memory holds, and in which order the waits may block.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Meeting

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state: one copy of the rounds for the staging transfers, one for the meeting -/

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ) (ρ : Dev nD → PrngReg)

/-- The machine at launch: any memory, every counter at zero, any generator registers. -/
abbrev start₀ : MemSt nD τ sig (Elt F) := ⟨m, fun _ => 0, ρ⟩

/-! ## Row mates -/

/-- The device in the same row of the mesh: logical id `2 i + j` goes to `2 i + (1 - j)`. -/
def mate (c : Dev nD) : Dev nD := ⟨2 * (c.val / 2) + 1 - c.val % 2, by have h : c.val < 4 := c.isLt; show _ < 4; omega⟩

theorem mate_val (c : Dev nD) : (mate c).val = 2 * (c.val / 2) + 1 - c.val % 2 := rfl
theorem mate_mate (c : Dev nD) : mate (mate c) = c := by revert c; decide

/-- Swapping every device with its mate, as a permutation. -/
def swap : Dev nD ≃ Dev nD := ⟨mate, mate, mate_mate, mate_mate⟩

/-- The device the kernel signals is the mate, -/
theorem signalled (c : Dev nD) : (⟨k0_dev1 c, k0_dev1_lt c⟩ : Dev nD) = mate c := Fin.ext (k0_dev1_eq c)
/-- and so is the device it copies to. -/
theorem addressed (c : Dev nD) : (⟨k0_dev2 c, k0_dev2_lt c⟩ : Dev nD) = mate c := Fin.ext (k0_dev2_eq c)

/-! ## Semaphores -/

abbrev barSem : Sem sig := (SemArray.scalar (sig.barrier 0 rfl) : Sems sig S_).sem
abbrev sentSem : DmaSem sig := (cc0_scratch2 : DmaSems sig S_).sem
abbrev cameSem : DmaSem sig := (cc0_scratch3 : DmaSems sig S_).sem

/-- The three semaphores of the meeting: barrier, sent, arrived. -/
abbrev semOf : Fin 3 → SemLoc sig := fun | 0 => .reg barSem | 1 => .dma sentSem | 2 => .dma cameSem

/-- Semaphore `k` of device `c`. -/
abbrev cellAt (c : Dev nD) (k : Fin 3) : GSem nD τ sig := ((c : Thread nD τ), semOf k)

/-- Which of the three a semaphore is, if any. -/
def slot (s : SemLoc sig) : Option (Fin 3) :=
  if s = semOf 0 then some 0 else if s = semOf 1 then some 1 else if s = semOf 2 then some 2 else none

theorem slot_semOf (k : Fin 3) : slot (semOf k) = some k := by fin_cases k <;> decide
theorem semOf_injective : Function.Injective semOf := fun a b h => Option.some.inj (by rw [← slot_semOf a, ← slot_semOf b, h])

theorem cell_eq_iff {c d : Dev nD} {k l : Fin 3} : cellAt c k = cellAt d l ↔ c = d ∧ k = l := by
  constructor
  · intro h
    exact ⟨Fin.ext (congrArg (fun g : GSem nD τ sig => g.1.1.val) h), semOf_injective (congrArg Prod.snd h)⟩
  · rintro ⟨rfl, rfl⟩; rfl

theorem cellAt_injective : Function.Injective fun ck : Dev nD × Fin 3 => cellAt ck.1 ck.2 :=
  fun a b h => Prod.ext (cell_eq_iff.mp h).1 (cell_eq_iff.mp h).2

/-! ## Buffers -/

abbrev xRef : Memref sig .tc .vmem S1024x512 .f32 := Memref.whole cc0_stg0_0
abbrev gRef : Memref sig .tc .vmem S512 .f32 := Memref.whole cc0_stg1_0
abbrev outRef : Memref sig .tc .vmem S1024x512 .f32 := Memref.whole cc0_stg2_0
/-- The packed sums of squares a device sends, -/
abbrev packRef : Memref sig .tc .vmem S8x128 .f32 := Memref.whole cc0_scratch0
/-- and the buffer its mate's packed sums land in. -/
abbrev landRef : Memref sig .tc .vmem S8x128 .f32 := Memref.whole cc0_scratch1

/-- What a copy of the packed sums pays at each end. -/
abbrev N : ℕ := landRef.view.dmaCredit
theorem N_pos : 0 < N := View.dmaCredit_pos _ (by decide)

/-! ## Contents -/

/-- Device `c`'s staged block of `x`, -/
def xIn (c : Dev nD) : (cc0_stg0_0 : Ref sig .tc).ty.Contents (Elt F) :=
  (win0_0.blk (0 : Fin 1)).view.read (Elt F) ((start₀ m ρ).mem ((c : Thread nD τ).loc main_arg0))
/-- and of `gamma`. -/
def gIn (c : Dev nD) : (cc0_stg1_0 : Ref sig .tc).ty.Contents (Elt F) :=
  (win0_1.blk (0 : Fin 1)).view.read (Elt F) ((start₀ m ρ).mem ((c : Thread nD τ).loc main_arg1))

/-- The 8 × 128 packing of the 1024 row sums of squares of a block of `x`, in the kernel's operations. -/
def packOf (x : FVec F S1024x512 .f32) : FVec F S8x128 .f32 :=
  k0_pay5 (k0_pay3 x) (k0_pay4 (F := F)) (iota .tc S8x1024 32 [1] iota_S8x1024_d1_w32) 128#32

/-- A device's result from its block of `x`, its mate's and its block of `gamma`, in the kernel's operations. -/
def outOf (x x' : FVec F S1024x512 .f32) (g : FVec F S512 .f32) : FVec F S1024x512 .f32 :=
  k0_pay1 (k0_pay7 (k0_pay2 x) (k0_pay6 g)) (k0_pay8 (k0_pay4 (F := F)) (packOf x) (packOf x'))

/-- What device `c` packs and sends. -/
def packed (c : Dev nD) : (cc0_scratch0 : Ref sig .tc).ty.Contents (Elt F) := packOf (xIn m ρ c)
/-- What lands at device `c`. -/
def landed (c : Dev nD) : (cc0_scratch1 : Ref sig .tc).ty.Contents (Elt F) := packOf (xIn m ρ (mate c))
/-- What device `c` computes. -/
def result (c : Dev nD) : (cc0_stg2_0 : Ref sig .tc).ty.Contents (Elt F) := outOf (xIn m ρ c) (xIn m ρ (mate c)) (gIn m ρ c)

/-- Device `c`'s packing buffer holding `f`, -/
def packPts (c : Dev nD) (f : Buf (Elt F) (packRef.view.loc (c : Thread nD τ))) : sProp 𝕄 :=
  packRef.view.loc (c : Thread nD τ) ↦[packRef.view.set]{fullShare} f
/-- and its landing buffer holding `f`. -/
def landPts (c : Dev nD) (f : Buf (Elt F) (landRef.view.loc (c : Thread nD τ))) : sProp 𝕄 :=
  landRef.view.loc (c : Thread nD τ) ↦[landRef.view.set]{fullShare} f

omit [FloatOps F] in
instance packPts_storable (c : Dev nD) (f) : BI.Storable (upEmb : UEmb _ 𝕄) (packPts (F := F) c f) := by unfold packPts; infer_instance
omit [FloatOps F] in
instance landPts_storable (c : Dev nD) (f) : BI.Storable (upEmb : UEmb _ 𝕄) (landPts (F := F) c f) := by unfold landPts; infer_instance

omit [FloatOps F] in
theorem packPts_eq (c : Dev nD) (f : Buf (Elt F) ((c : Thread nD τ).loc cc0_scratch0)) :
    packPts c f = (((c : Thread nD τ).loc cc0_scratch0) ↦{fullShare} f : sProp 𝕄) := by
  unfold packPts; rw [show packRef.view.set = Finset.univ from View.set_whole _]
omit [FloatOps F] in
theorem landPts_eq (c : Dev nD) (f : Buf (Elt F) ((c : Thread nD τ).loc cc0_scratch1)) :
    landPts c f = (((c : Thread nD τ).loc cc0_scratch1) ↦{fullShare} f : sProp 𝕄) := by
  unfold landPts; rw [show landRef.view.set = Finset.univ from View.set_whole _]

omit [FloatOps F] in
/-- A copy of the whole packing buffer over the whole landing buffer leaves the packing buffer's contents there. -/
theorem copy_whole (c : Dev nD) (fd : Buf (Elt F) (landRef.view.loc (c : Thread nD τ))) (fs : (cc0_scratch0 : Ref sig .tc).ty.Contents (Elt F)) :
    landRef.view.write (Elt F) fd (packRef.view.read (Elt F) fs) Finset.univ = fs := by
  show (View.whole cc0_scratch1).write (Elt F) fd ((View.whole cc0_scratch0).read (Elt F) fs) Finset.univ = fs
  rw [View.read_whole]
  exact View.write_whole_univ _ _ _

/-! ## The schedule -/

/-- The units a payment of semaphore `k` brings: one signal, or a copy's credit. -/
def units : Fin 3 → ℕ := fun | 0 => 1 | 1 => N | 2 => N

theorem units_pos (k : Fin 3) : 0 < units k := by fin_cases k; exacts [Nat.one_pos, N_pos, N_pos]

/-- What a payment of semaphore `k` hands device `c`: at the barrier the mate's landing buffer, whatever it holds, and that
    the mate's arrival semaphore is still in its first round; at `1` its packing buffer back, unchanged; at `2` its own
    landing buffer, holding the mate's packed sums. -/
def parcel (c : Dev nD) : Fin 3 → sProp 𝕄 := fun
  | 0 => iprop((∃ f, landPts (mate c) f) ∗ reached ER (cellAt (mate c) 2) 0)
  | 1 => packPts c (packed m ρ c)
  | 2 => landPts c (landed m ρ c)

instance parcel_storable (c : Dev nD) (k : Fin 3) : BI.Storable (upEmb : UEmb _ 𝕄) (parcel m ρ c k) := by
  fin_cases k
  · show BI.Storable upEmb iprop((∃ f, landPts (mate c) f) ∗ reached ER (cellAt (mate c) 2) 0); infer_instance
  · show BI.Storable upEmb (packPts c (packed m ρ c)); infer_instance
  · show BI.Storable upEmb (landPts c (landed m ρ c)); infer_instance

/-- One round with one duty at each of the three semaphores of each device. -/
def plan : Rounds.Schedule (GSem nD τ sig) Unit 𝕄 where
  duties g r := if r = 0 ∧ g.1.2 = .tc ∧ (slot g.2).isSome then {()} else ∅
  unitless _ := False
  amount g _ _ := (slot g.2).elim 1 units
  payload g _ _ := (slot g.2).elim iprop(emp) (parcel m ρ g.1.1)
  amount_pos g _ _ _ := by
    cases h : slot g.2 with
    | none => exact Nat.one_pos
    | some k => exact units_pos k

instance plan_payload_storable (g : GSem nD τ sig) (r : ℕ) (d : Unit) :
    BI.Storable (upEmb : UEmb _ 𝕄) ((plan (F := F) m ρ).payload g r d) := by
  show BI.Storable upEmb ((slot g.2).elim iprop(emp) (parcel m ρ g.1.1))
  cases slot g.2 with
  | none => show BI.Storable upEmb iprop(emp); infer_instance
  | some k => exact parcel_storable m ρ g.1.1 k

section Plan
variable (c : Dev nD) (k : Fin 3)

theorem duties_at : (plan m ρ).duties (cellAt c k) 0 = {()} := by
  dsimp only [plan]; rw [slot_semOf]; exact if_pos ⟨rfl, rfl, rfl⟩
theorem duty_mem : () ∈ (plan m ρ).duties (cellAt c k) 0 := by rw [duties_at]; exact Finset.mem_singleton_self _
theorem duties_over (g : GSem nD τ sig) : ∀ r, 1 ≤ r → (plan m ρ).duties g r = ∅ :=
  fun r hr => by dsimp only [plan]; exact if_neg fun h => by omega
theorem amount_at : (plan m ρ).amount (cellAt c k) 0 () = units k := by dsimp only [plan]; rw [slot_semOf]; rfl
theorem expect_at : (plan m ρ).expect (cellAt c k) 0 = units k := by
  unfold Schedule.expect Schedule.amountOf; rw [duties_at, Finset.sum_singleton, amount_at]
theorem payload_at : (plan m ρ).payload (cellAt c k) 0 () = parcel m ρ c k := by dsimp only [plan]; rw [slot_semOf]; rfl
/-- Waiting for the whole round of a semaphore yields its parcel. -/
theorem rest_at : bigSep ((plan m ρ).duties (cellAt c k) 0 \ ∅) (fun d => (plan m ρ).payload (cellAt c k) 0 d) = parcel m ρ c k := by
  rw [Finset.sdiff_empty, duties_at, bigSep_singleton, payload_at]

end Plan

/-! ## Debts and levels -/

/-- What device `c` still owes once it has signalled: the credit of its copy at its mate. -/
abbrev owedCopy (c : Dev nD) : CellTallies nD τ sig Unit := tallyAt (cellAt (mate c) 2) () N
/-- What it owes at launch: that and the signal. -/
def owed₀ (c : Dev nD) : CellTallies nD τ sig Unit := owedCopy c + tallyAt (cellAt (mate c) 0) () 1

def L (g : GSem nD τ sig) : Finset Unit := if g.1.2 = .tc then {()} else ∅
/-- Barrier semaphores have level 1, arrival semaphores level 2, all others level 0: a wait only blocks while every debt
    of the waiting device is to a higher level. -/
def lv (g : GSem nD τ sig) (_ : Unit) : ℕ := (slot g.2).elim 0 (fun | 0 => 1 | 1 => 0 | 2 => 2)

theorem L_of_ne (g : GSem nD τ sig) (h : g.1.2 ≠ .tc) : L g = ∅ := if_neg h
theorem L_tc (c : Dev nD) (s : SemLoc sig) : L ((c : Thread nD τ), s) = {()} := if_pos rfl
theorem lv_bar (c : Dev nD) : lv (cellAt c 0) () = 1 := by unfold lv; rw [show slot (cellAt c 0).2 = some 0 from slot_semOf 0]; rfl
theorem lv_came (c : Dev nD) : lv (cellAt c 2) () = 2 := by unfold lv; rw [show slot (cellAt c 2).2 = some 2 from slot_semOf 2]; rfl

theorem of_owedCopy {c : Dev nD} {g : GSem nD τ sig} {u : Unit} (h : 0 < owedCopy c g u) : g = cellAt (mate c) 2 := by
  rw [tallyAt_apply] at h
  by_contra hn
  rw [if_neg fun h' => hn h'.1] at h
  exact Nat.lt_irrefl 0 h

theorem of_owed₀ {c : Dev nD} {g : GSem nD τ sig} {u : Unit} (h : 0 < owed₀ c g u) : g = cellAt (mate c) 2 ∨ g = cellAt (mate c) 0 := by
  unfold owed₀ at h
  rw [Pi.add_apply, Finsupp.add_apply, tallyAt_apply, tallyAt_apply] at h
  by_contra hn
  rw [not_or] at hn
  rw [if_neg fun h' => hn.1 h'.1, if_neg fun h' => hn.2 h'.1] at h
  exact Nat.lt_irrefl 0 h

omit [FloatOps F] in
/-- A staging transfer's wait may block under any debt of the meeting. -/
theorem mayWait_stage (c : Dev nD) (q : DmaSem sig) (hq : slot (.dma q) = none) (O : CellTallies nD τ sig Unit) (hO : O = owed₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases of_owed₀ hg with rfl | rfl <;> exact Finset.mem_singleton_self _)
      (fun p hp => by rw [Finset.mem_singleton.mp hp]; dsimp only [lv]; rw [hq]; exact le_rfl)
      (fun g u hg => by
        rcases of_owed₀ hg with rfl | rfl
        · show 0 < lv (cellAt (mate c) 2) (); rw [lv_came]; decide
        · show 0 < lv (cellAt (mate c) 0) (); rw [lv_bar]; decide)
  · rw [MayWait_zero]; iintro -; iempintro

omit [FloatOps F] in
/-- The barrier wait may block while only the copy is owed. -/
theorem mayWait_bar (c : Dev nD) : (levAts L lv : sProp 𝕄) ⊢ MayWait (c : Thread nD τ) (.reg barSem) () (owedCopy c) :=
  MayOwe.of_cut (L := L) (lev := lv) 1 (fun p hp => by rw [Finset.mem_singleton.mp hp, L_tc]; exact Finset.mem_singleton_self _)
    (fun g u hg => by rw [of_owedCopy hg]; exact Finset.mem_singleton_self _)
    (fun p hp => by rw [Finset.mem_singleton.mp hp]; show lv (cellAt c 0) () ≤ 1; rw [lv_bar])
    (fun g u hg => by rw [of_owedCopy hg]; show 1 < lv (cellAt (mate c) 2) (); rw [lv_came]; decide)

end Cert.KernelIdeal.Meeting

end
-- ==== Proof.Body.lean ====
/-
# One device's run of the kernel body

From the ghost state of the meeting, its two scratch buffers and its staged blocks of `x` and `gamma`, device `c` runs the
body to the end: the output staging buffer holds `result c`, the staged inputs are unchanged, every debt is paid, and its
three semaphores of the meeting are at zero again. The proof is made once, for a symbolic device.
-/
module

public import proofs.«01_k».proof.Proof.Meeting

@[expose] public section

noncomputable section

namespace Cert.KernelIdeal.Meeting

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from and ends with -/

section Ghost
variable (K : Dev nD × Fin 3 → ℕ) (c : Dev nD)

/-- The invariants device `c` opens: its own three semaphores', and of its mate's the barrier's and the arrival's. -/
def rules : sProp 𝕄 :=
  iprop((cellInv ER (plan m ρ) (K (c, 0)) (cellAt c 0) ∗ cellInv ER (plan m ρ) (K (c, 1)) (cellAt c 1) ∗ cellInv ER (plan m ρ) (K (c, 2)) (cellAt c 2))
    ∗ cellInv ER (plan m ρ) (K (mate c, 0)) (cellAt (mate c) 0) ∗ cellInv ER (plan m ρ) (K (mate c, 2)) (cellAt (mate c) 2))

instance rules_persistent : BI.Persistent (rules m ρ K c) := by unfold rules; infer_instance

/-- The three payments device `c` will make: the mate's barrier, its own departure, the mate's arrival. -/
def duesOf (c : Dev nD) : sProp 𝕄 :=
  iprop(dutyTok ER (cellAt (mate c) 0) 0 () ∗ dutyTok ER (cellAt c 1) 0 () ∗ dutyTok ER (cellAt (mate c) 2) 0 ())

/-- Its three positions, each at the first round. -/
def places (c : Dev nD) : sProp 𝕄 :=
  iprop(atPos ER (cellAt c 0) 0 ∅ 0 ∗ atPos ER (cellAt c 1) 0 ∅ 0 ∗ atPos ER (cellAt c 2) 0 ∅ 0)

/-- That the semaphores it pays, and its own arrival semaphore, are in their first round. -/
def fresh (c : Dev nD) : sProp 𝕄 :=
  iprop(reached ER (cellAt (mate c) 0) 0 ∗ reached ER (cellAt c 1) 0 ∗ reached ER (cellAt (mate c) 2) 0 ∗ reached ER (cellAt c 2) 0)

def ghost : sProp 𝕄 := iprop(rules m ρ K c ∗ fresh c ∗ places c ∗ duesOf c)

end Ghost

/-- What the launch gives device `c`: its part of the meeting, the credit of its barrier and arrival waits, the levels. -/
def start (c : Dev nD) : sProp 𝕄 :=
  iprop((∃ K, ghost m ρ K c) ∗ cred (tallyAt (cellAt c 0) () 1) ∗ cred (tallyAt (cellAt c 2) () N) ∗ levAts L lv)

def before (c : Dev nD) : sProp 𝕄 := iprop(start m ρ c ∗ (∃ f, packPts c f) ∗ (∃ f, landPts c f))

/-- After the body: the scratch buffers with their contents, the three semaphores closed at zero. -/
def afterwards (c : Dev nD) : sProp 𝕄 :=
  iprop(packPts c (packed m ρ c) ∗ landPts c (landed m ρ c)
    ∗ semVal (cellAt c 0) 0 ∗ semVal (cellAt c 1) 0 ∗ semVal (cellAt c 2) 0)

/-- The grid has one point; this is what holds around it. -/
def dats (_ : Fin 1) (c : Dev nD) : Dat τ (Elt F) Unit ℕ UU ℕ cfg0 c where
  A w := (start₀ m ρ).mem ((cfg0.win w).arr.view.loc (c : Thread nD τ))
  after w _ := match w with
    | ⟨0, _⟩ => xIn m ρ c
    | ⟨1, _⟩ => gIn m ρ c
    | ⟨2, _⟩ => result m ρ c
  Φ t := match t with
    | ⟨0, _⟩ => before m ρ c
    | ⟨_ + 1, _⟩ => afterwards m ρ c
  q _ := fullShare
  owed t := match t with
    | ⟨0, _⟩ => owed₀ c
    | ⟨_ + 1, _⟩ => 0

abbrev 𝒱₀ : Variants := Variants.none

theorem fetch_at (w : Fin 3) (hw : w ≠ 2) : (cfg0.win w).fetch t0_0 = true := by fin_cases w; exacts [rfl, rfl, absurd rfl hw]

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-! ## Whole-buffer accesses -/

omit [FloatOps F] in
theorem origin₂ : (![0, 0] : Fin 2 → Nat) = fun _ => 0 := funext fun a => by fin_cases a <;> rfl
omit [FloatOps F] in
theorem origin₁ : (![0] : Fin 1 → Nat) = fun _ => 0 := funext fun a => by fin_cases a; rfl

abbrev rBlock : Rect S1024x512 := Rect.unit (s := S1024x512) ![0, 0] S1024x512.size inb_S1024x512_S1024x512_0_0
abbrev rGamma : Rect S512 := Rect.unit (s := S512) ![0] S512.size inb_S512_S512_0
abbrev rPack : Rect S8x128 := Rect.unit (s := S8x128) ![0, 0] S8x128.size inb_S8x128_S8x128_0_0

omit [FloatOps F] in
theorem load_x (f : (cc0_stg0_0 : Ref sig .tc).ty.Contents (Elt F)) : xRef.view.readAt (Elt F) rBlock.toLoadRect f = f :=
  Memref.readAt_unit_zero (Elt F) cc0_stg0_0 origin₂ _ f
omit [FloatOps F] in
theorem load_g (f : (cc0_stg1_0 : Ref sig .tc).ty.Contents (Elt F)) : gRef.view.readAt (Elt F) rGamma.toLoadRect f = f :=
  Memref.readAt_unit_zero (Elt F) cc0_stg1_0 origin₁ _ f
omit [FloatOps F] in
theorem load_pack (f : (cc0_scratch0 : Ref sig .tc).ty.Contents (Elt F)) : packRef.view.readAt (Elt F) rPack.toLoadRect f = f :=
  Memref.readAt_unit_zero (Elt F) cc0_scratch0 origin₂ _ f
omit [FloatOps F] in
theorem load_land (f : (cc0_scratch1 : Ref sig .tc).ty.Contents (Elt F)) : landRef.view.readAt (Elt F) rPack.toLoadRect f = f :=
  Memref.readAt_unit_zero (Elt F) cc0_scratch1 origin₂ _ f
omit [FloatOps F] in
theorem store_pack (f w : (cc0_scratch0 : Ref sig .tc).ty.Contents (Elt F)) :
    (packRef.access rPack : View sig .tc _ _ _).write (Elt F) f w Finset.univ = w :=
  Memref.write_access_unit_zero_univ (Elt F) cc0_scratch0 origin₂ _ f w
omit [FloatOps F] in
theorem store_out (f w : (cc0_stg2_0 : Ref sig .tc).ty.Contents (Elt F)) :
    (outRef.access rBlock : View sig .tc _ _ _).write (Elt F) f w Finset.univ = w :=
  Memref.write_access_unit_zero_univ (Elt F) cc0_stg2_0 origin₂ _ f w

/-- Both buffers have the same size, so a copy brings the same credit at both ends. -/
theorem pack_credit : packRef.view.dmaCredit = N := rfl

/-- What the store leaves in the packing buffer is `packed c`. -/
theorem packed_stored (c : Dev nD) :
    (View.loc (c : Thread nD τ) (packRef.access rPack)
        ↦{fullShare} k0_pay5 (k0_pay3 (xIn m ρ c)) (k0_pay4 (F := F)) (iota .tc S8x1024 32 [1] iota_S8x1024_d1_w32) 128#32 : sProp 𝕄)
      ⊢ packPts c (packed m ρ c) := Entails.of_eq (packPts_eq c (packed m ρ c)).symm

/-! ## The copy -/

/-- Starting the copy to the mate: the packing buffer and the mate's landing buffer go into it, the debt of its arrival is
    paid, and a credit for the wait on its departure comes back. -/
theorem start_copy (K : Dev nD × Fin 3 → ℕ) (c n : Dev nD) (hn : n = mate c)
    {hsc : (landRef : Memref sig (Dev.tc n : Thread nD τ).2.kind .vmem S8x128 .f32).view.ref.isScScratch = false}
    {hsrc : packRef.view.WordExact} {hdst : (landRef : Memref sig (Dev.tc n : Thread nD τ).2.kind .vmem S8x128 .f32).view.WordExact}
    {hsem : DmaTarget.Typed .vmem (.dma cameSem) (.remote (Dev.tc n : Thread nD τ) (landRef : Memref sig .tc .vmem S8x128 .f32) (.dma sentSem) hsc)}
    {α : Type} {Q : α → sProp 𝕄} {k : PUnit → Prog (TpuEff nD τ sig (Elt F) Λ₀ .tc) α}
    (fn : Buf (Elt F) (landRef.view.loc (mate c : Thread nD τ))) (W : Waits sig Unit) :
    iprop(cellInv ER (plan m ρ) (K (c, 1)) (cellAt c 1) ∗ cellInv ER (plan m ρ) (K (mate c, 2)) (cellAt (mate c) 2)
        ∗ packPts c (packed m ρ c) ∗ landPts (mate c) fn ∗ owes (c : Thread nD τ) (owedCopy c) W
        ∗ dutyTok ER (cellAt c 1) 0 () ∗ reached ER (cellAt c 1) 0
        ∗ dutyTok ER (cellAt (mate c) 2) 0 () ∗ reached ER (cellAt (mate c) 2) 0)
      ⊢ iprop(((cred (tallyAt (cellAt c 1) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma packRef (.remote (Dev.tc n : Thread nD τ) landRef (.dma sentSem) hsc) (.dma cameSem) hsrc hdst hsem) k) Q) := by
  subst hn
  unfold packPts landPts owedCopy
  exact Rounds.wp_send_pointsTo 𝒱₀ ER (plan m ρ) (c : Thread nD τ) none (κ₁ := K (c, 1)) (κ₂ := K (mate c, 2))
    (r₁ := 0) (r₂ := 0) (d₁ := ()) (d₂ := ()) (fd := fn) (duty_mem m ρ c 1) (duty_mem m ρ (mate c) 2)
    () () N rfl (amount_at m ρ c 1) (amount_at m ρ (mate c) 2) 0 (by rw [zero_add]) (W := W)
    (by rw [payload_at]; exact BI.Entails.refl _)
    (by rw [payload_at]; show _ ⊢ landPts (mate c) (landed m ρ (mate c)); unfold landPts landed; rw [copy_whole, packed, mate_mate])

/-! ## The body -/

/-- Buffer `b` of device `c` holding `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- The staging buffers and debts before the body, -/
def stagedPre (c : Dev nD) : sProp 𝕄 :=
  iprop((dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

/-- and after it. -/
def stagedPost (c : Dev nD) : sProp 𝕄 :=
  iprop((dats m ρ 0 c).owesAt () t0_0.succ ∗ stg c cc0_stg0_0 (xIn m ρ c) ∗ stg c cc0_stg1_0 (gIn m ρ c) ∗ stg c cc0_stg2_0 (result m ρ c))

set_option maxHeartbeats 1600000 in
/-- The body's run, one rule per operation in program order. -/
theorem body_run (c : Dev nD) (Kt : PUnit → sProp 𝕄) :
    iprop((before m ρ c ∗ stagedPre m ρ c) ∗ ((afterwards m ρ c ∗ stagedPost m ρ c) -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton]
  unfold k0_part1_skel k0_part2_skel k0_part3_skel
  simp only [semSignalWord, semWaitWord, Prog.lift, Prog.bind_op, Prog.bind_ret, Prog.pure_eq_ret, wp_deviceId]
  unfold before start ghost rules fresh places duesOf stagedPre
  iintro ⟨⟨⟨⟨⟨%K, ⟨⟨#HIbar, #HIsent, #HIcame⟩, #HIbarM, #HIcameM⟩, ⟨#HrBM, #HrS, #HrCM, #HrC⟩, ⟨HatB, HatS, HatC⟩, HtB, HtS, HtC⟩, HcB, HcC, #Hlev⟩,
      ⟨%fp, Hpack⟩, ⟨%fl, Hland⟩⟩,
    Ho, ⟨%d0, %x0, %hx0, Hx⟩, ⟨%d1, %g0, %hg0, Hg⟩, ⟨%d2, %o0, %ho0, Hout⟩⟩, Hk⟩
  have hx : x0 = xIn m ρ c := by rw [hx0]; unfold Dat.before; rw [if_pos (fetch_at 0 (by decide))]; rfl
  have hg : g0 = gIn m ρ c := by rw [hg0]; unfold Dat.before; rw [if_pos (fetch_at 1 (by decide))]; rfl
  subst hx hg
  unfold Dat.owesAt Pipeline.owesWithin
  icases Ho with ⟨%W, %hW, HO⟩
  rw [show (dats m ρ 0 c).owed t0_0.castSucc = owed₀ c from rfl]
  simp only [signalled c]
  unfold owed₀
  -- the signal: the mate may write this device's landing buffer
  iapply (Rounds.wp_signal 𝒱₀ ER (plan m ρ) (c : Thread nD τ) none (dst := (mate c : Thread nD τ)) (κ := K (mate c, 0))
      (d := ()) (duty_mem m ρ (mate c) 0) ((amount_at m ρ (mate c) 0).trans (by decide)) () (owedCopy c) rfl) $$ [HO HtB Hland]
  · isplitr; · iexact HIbarM
    isplitl [HO]; · iexact HO
    isplitl [HtB]; · iexact HtB
    isplitl [Hland]
    · rw [show (plan m ρ).payload ((mate c : Thread nD τ), SemLoc.reg barSem) 0 () = iprop((∃ f, landPts (mate (mate c)) f) ∗ reached ER (cellAt (mate (mate c)) 2) 0)
        from payload_at m ρ (mate c) 0, mate_mate]
      isplitl [Hland]; · iexists fl; iexact Hland
      iexact HrC
    · iexact HrBM
  iintro HO
  -- the sums of squares are packed
  iapply (wp_load 𝒱₀ (c : Thread nD τ) none Set.univ (m := xRef) (Finset.subset_univ _)) $$ Hx; iintro Hx
  rw [load_x]
  ihave Hpack := (Entails.of_eq (packPts_eq c fp)) $$ Hpack
  iapply (wp_load 𝒱₀ (c : Thread nD τ) none Set.univ (m := packRef) (Finset.subset_univ _)) $$ Hpack; iintro Hpack
  iapply (wp_store 𝒱₀ (c : Thread nD τ) none Set.univ (m := packRef) (r := rPack) (Mk := Finset.univ) (Finset.subset_univ _)) $$ Hpack; iintro Hpack
  rw [store_pack]
  ihave Hpack := (packed_stored m ρ c) $$ Hpack
  -- the wait on its own barrier: the mate's landing buffer may be written
  iapply (Rounds.wp_wait_rest_token 𝒱₀ ER (plan m ρ) (c : Thread nD τ) none (κ := K (c, 0))
      (wpE_semWait_eq 𝒱₀ (c : Thread nD τ) none Set.univ) (Set.mem_univ _) () (O := owedCopy c) (W := W) (R := 0) (m := 0) (T := ∅)
      ((show 0 + 1 = units 0 from rfl).trans (expect_at m ρ c 0).symm)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_at m ρ c 0)) $$ Hpay
  unfold parcel
  icases Hp with ⟨⟨%fn, HlandM⟩, -⟩
  -- the copy starts
  iapply (start_copy m ρ K c _ (addressed c) fn (insert (SemLoc.reg barSem, ()) W)) $$ [Hpack HlandM HO HtS HtC]
  · isplitr; · iexact HIsent
    isplitr; · iexact HIcameM
    isplitl [Hpack]; · iexact Hpack
    isplitl [HlandM]; · iexact HlandM
    isplitl [HO]; · iexact HO
    isplitl [HtS]; · iexact HtS
    isplitr; · iexact HrS
    isplitl [HtC]; · iexact HtC
    iexact HrCM
  iintro ⟨HcS, HO⟩
  iapply (wp_load 𝒱₀ (c : Thread nD τ) none Set.univ (m := gRef) (Finset.subset_univ _)) $$ Hg; iintro Hg
  rw [load_g]
  -- its own copy has left
  iapply (Rounds.wp_wait_rest_token 𝒱₀ ER (plan m ρ) (c : Thread nD τ) none (κ := K (c, 1))
      (wpE_waitDma2_eq 𝒱₀ (c : Thread nD τ) none Set.univ) (Set.mem_univ _) () (O := 0) (W := insert (SemLoc.reg barSem, ()) W) (R := 0) (m := 0) (T := ∅)
      ((Nat.zero_add packRef.view.dmaCredit).trans (pack_credit.trans (expect_at m ρ c 1).symm))) $$ [HcS HO HatS]
  · isplitr; · iexact HIsent
    isplitl [HcS]; · iexact HcS
    isplitl [HO]; · iexact HO
    isplitr; · rw [MayWait_zero]; iempintro
    iexact HatS
  iintro ⟨HO, HatS, -, Hpay⟩
  ihave Hpack := (Entails.of_eq ((rest_at m ρ c 1).trans (packPts_eq c (packed m ρ c)))) $$ Hpay
  -- the mate's has arrived
  iapply (Rounds.wp_wait_rest_token 𝒱₀ ER (plan m ρ) (c : Thread nD τ) none (κ := K (c, 2))
      (wpE_waitDma2_eq 𝒱₀ (c : Thread nD τ) none Set.univ) (Set.mem_univ _) () (O := 0)
      (W := insert (SemLoc.dma sentSem, ()) (insert (SemLoc.reg barSem, ()) W)) (R := 0) (m := 0) (T := ∅)
      ((Nat.zero_add landRef.view.dmaCredit).trans (expect_at m ρ c 2).symm)) $$ [HcC HO HatC]
  · isplitr; · iexact HIcame
    isplitl [HcC]; · iexact HcC
    isplitl [HO]; · iexact HO
    isplitr; · rw [MayWait_zero]; iempintro
    iexact HatC
  iintro ⟨HO, HatC, -, Hpay⟩
  ihave Hland := (Entails.of_eq ((rest_at m ρ c 2).trans (landPts_eq c (landed m ρ c)))) $$ Hpay
  -- the three semaphores are done with
  imod (Rounds.cell_close ER (plan m ρ) (Set.mem_univ (K (c, 0))) (fun h => h) (R := 0 + 1) (duties_over m ρ (cellAt c 0))) $$ [HatB] with HzB
  · isplitr; · iexact HIbar
    iexact HatB
  imod (Rounds.cell_close ER (plan m ρ) (Set.mem_univ (K (c, 1))) (fun h => h) (R := 0 + 1) (duties_over m ρ (cellAt c 1))) $$ [HatS] with HzS
  · isplitr; · iexact HIsent
    iexact HatS
  imod (Rounds.cell_close ER (plan m ρ) (Set.mem_univ (K (c, 2))) (fun h => h) (R := 0 + 1) (duties_over m ρ (cellAt c 2))) $$ [HatC] with HzC
  · isplitr; · iexact HIcame
    iexact HatC
  -- the result
  iapply (wp_load 𝒱₀ (c : Thread nD τ) none Set.univ (m := packRef) (Finset.subset_univ _)) $$ Hpack; iintro Hpack
  rw [load_pack]
  iapply (wp_load 𝒱₀ (c : Thread nD τ) none Set.univ (m := landRef) (Finset.subset_univ _)) $$ Hland; iintro Hland
  rw [load_land]
  iapply (wp_load 𝒱₀ (c : Thread nD τ) none Set.univ (m := outRef) (Finset.subset_univ _)) $$ Hout; iintro Hout
  iapply (wp_store 𝒱₀ (c : Thread nD τ) none Set.univ (m := outRef) (r := rBlock) (Mk := Finset.univ) (Finset.subset_univ _)) $$ Hout; iintro Hout
  rw [store_out, wp_ret]; imodintro
  iapply Hk
  unfold afterwards stagedPost Dat.owesAt Pipeline.owesWithin
  rw [show (dats m ρ 0 c).owed t0_0.succ = 0 from rfl, packPts_eq, landPts_eq]
  isplitl [Hpack Hland HzB HzS HzC]
  · isplitl [Hpack]; · iexact Hpack
    isplitl [Hland]; · iexact Hland
    isplitl [HzB]; · iexact HzB
    isplitl [HzS] <;> iassumption
  isplitl [HO]
  · iexists (insert (SemLoc.dma cameSem, ()) (insert (SemLoc.dma sentSem, ()) (insert (SemLoc.reg barSem, ()) W)))
    isplitr; · ipureintro; exact fun _ _ => Or.inl trivial
    iexact HO
  isplitl [Hx]
  · iexists _; isplitr; · (ipureintro; rfl)
    iexact Hx
  isplitl [Hg]
  · iexists _; isplitr; · (ipureintro; rfl)
    iexact Hg
  iexists _; isplitr; · (ipureintro; rfl)
  iexact Hout

set_option maxRecDepth 4000 in
/-- The same, in the form the launch theorem asks for. -/
theorem body_obligation (c : Dev nD) : BodyObligation (dats (F := F) m ρ 0 c) (defs₀ (F := F)) 𝒱₀ () Set.univ := fun t => by
  rw [show t = t0_0 from fin_N0 t]
  rw [bigSep_W0, bigSep_W0]
  simp only [owns_whole_eq]
  show iprop(before m ρ c ∗ stagedPre m ρ c) ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      (Memref.whole cc0_scratch1) (Memref.isWhole_whole _) cc0_scratch2 cc0_scratch3) (fun _ => iprop(afterwards m ρ c ∗ stagedPost m ρ c))
  iintro H
  iapply (body_run m ρ c fun _ => iprop(afterwards m ρ c ∗ stagedPost m ρ c))
  isplitl [H]; · iexact H
  iintro H; iexact H

end Cert.KernelIdeal.Meeting

end
-- ==== Proof.Launch.lean ====
/-
# The run of the whole mesh

Every device's three semaphores are made into cells of the schedule at once, the duties are dealt so that each device holds
those it pays, and the library's launch theorem turns the body's run into a statement about `@main` on the four devices:
it terminates, each device's result array holds `result c`, its inputs are as they were, and every semaphore is at zero.
-/
module

public import proofs.«01_k».proof.Proof.Body
public import Idealize.ShloMosaic.Lib.Pipeline.CollectiveSegs

@[expose] public section

noncomputable section

namespace Cert.KernelIdeal.Meeting

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and their duties -/

/-- The two semaphores the kernel call brings with it; the barrier is the runtime's. -/
abbrev ownSem : Fin 2 → SemLoc sig := fun | 0 => .dma sentSem | 1 => .dma cameSem

theorem ownSemFacts : Pipeline.OwnSemFacts cfg0.spec ownSem := by decide

theorem share_eq (c : Dev nD) (w : Fin cfg0.W) : (dats m ρ 0 c).share w = fullShare := by unfold Dat.share; split <;> rfl

abbrev cellOfPair (ck : Dev nD × Fin 3) : GSem nD τ sig := cellAt ck.1 ck.2

def allCells : Finset (GSem nD τ sig) := Finset.univ.map ⟨cellOfPair, cellAt_injective⟩

def allDuties : Finset (GSem nD τ sig × ℕ × Unit) :=
  Finset.univ.map ⟨fun ck : Dev nD × Fin 3 => (cellOfPair ck, 0, ()), fun a b h => cellAt_injective (congrArg Prod.fst h)⟩

/-- The ghost state at launch: the staging transfers' part and the meeting's. -/
def u₀ : UU := (initOf (Pipeline.cells cfgs cellOf_inj) (Pipeline.launchToks cfgs cellOf_inj), initOf allCells allDuties)

omit [FloatOps F] in
theorem bigSep_three (Φ : Fin 3 → sProp 𝕄) : bigSep Finset.univ Φ = iprop(Φ 0 ∗ Φ 1 ∗ Φ 2) := bigSep_univ_eq_bigSepL [0, 1, 2] (by decide) (by decide) Φ

/-- The duties of device `c`'s own semaphores. -/
def ownDuties (c : Dev nD) : sProp 𝕄 := bigSep Finset.univ fun k : Fin 3 => dutyTok ER (cellAt c k) 0 ()

/-- What the launch deals device `c`: for each of its semaphores the schedule's state, its position and its duty. -/
def dealt (c : Dev nD) : sProp 𝕄 :=
  iprop((bigSep Finset.univ fun k : Fin 3 => roundState ER (plan m ρ) (cellAt c k) 0)
    ∗ (bigSep Finset.univ fun k : Fin 3 => iprop(atPos ER (cellAt c k) 0 ∅ 0 ∗ reached ER (cellAt c k) 0)) ∗ ownDuties c)

/-- What the body starts from of it. -/
def ready (c : Dev nD) : sProp 𝕄 := iprop(∃ K, ghost m ρ K c)

theorem fund_all : BI.own (ER (initOf allCells allDuties)) ⊢ (|==> bigSep Finset.univ (dealt m ρ) : sProp 𝕄) := by
  have hX (Φ : GSem nD τ sig → sProp 𝕄) :
      bigSep allCells Φ = bigSep Finset.univ fun c : Dev nD => bigSep Finset.univ fun k : Fin 3 => Φ (cellAt c k) := by
    unfold allCells; rw [bigSep_map, bigSep_univ_prod]; rfl
  have hT : bigSep allDuties (fun x => (dutyTok ER x.1 x.2.1 x.2.2 : sProp 𝕄)) = bigSep Finset.univ fun c : Dev nD => ownDuties c := by
    unfold allDuties ownDuties; rw [bigSep_map, bigSep_univ_prod]; rfl
  iintro HX
  imod (Rounds.fund ER (plan m ρ) allCells allDuties) $$ HX with ⟨Hst, Hr, Hat, Htok⟩
  imodintro
  ihave Hst := (Entails.of_eq (hX fun g => roundState ER (plan m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt; simp only [bigSep_sep']
  isplitl [Hst]; · iexact Hst
  isplitl [Hat Hr]
  · isplitl [Hat] <;> iassumption
  iexact Htok

/-! ## The semaphores become cells -/

omit [FloatOps F] in
theorem ownSems0_eq (c : Dev nD) : (Pipeline.ownSems0 (Ix := Unit) (Name := ℕ) (U := UU) (Lvl := ℕ) (Val := Elt F) (τ := τ) ownSem c : sProp 𝕄)
    = iprop(semVal (cellAt c 1) 0 ∗ semVal (cellAt c 2) 0) := by
  rw [Pipeline.ownSems0_eq_of_list c ownSem [0, 1] (by decide) (by decide)]; rfl
omit [FloatOps F] in
theorem unscopedSems0_eq (c : Dev nD) : (unscopedSems0 c : sProp 𝕄) = semVal (cellAt c 0) 0 := by
  unfold unscopedSems0; rw [bigSep_eq_bigSepL_of_eq [SemLoc.reg barSem] (by decide) (by decide)]; rfl

/-- One device's semaphores, at zero, become the three cells of the schedule, under names yet unknown. -/
theorem cells_alloc (c : Dev nD) :
    iprop(Pipeline.ownSems0 (Ix := Unit) (Name := ℕ) (U := UU) (Lvl := ℕ) (Val := Elt F) (τ := τ) ownSem c ∗ unscopedSems0 c ∗ dealt m ρ c)
      ⊢ |={Set.univ}=> iprop((bigSep Finset.univ fun k => iprop(∃ κ : ℕ, cellInv ER (plan m ρ) κ (cellAt c k)))
          ∗ (bigSep Finset.univ fun k => iprop(atPos ER (cellAt c k) 0 ∅ 0 ∗ reached ER (cellAt c k) 0)) ∗ ownDuties c) := by
  have hinv : iprop((bigSep Finset.univ fun k : Fin 3 => semVal (cellAt c k) 0) ∗ bigSep Finset.univ fun k : Fin 3 => roundState ER (plan m ρ) (cellAt c k) 0)
      ⊢ (|={Set.univ}=> bigSep Finset.univ fun k => iprop(∃ κ : ℕ, cellInv ER (plan m ρ) κ (cellAt c k)) : sProp 𝕄) := by
    rw [← bigSep_sep']
    exact (bigSep_mono fun k _ => (Rounds.body_intro ER (plan m ρ) (cellAt c k)).trans inv_alloc).trans (bigSep_fupd _ _)
  unfold dealt
  rw [ownSems0_eq, unscopedSems0_eq]
  iintro ⟨⟨HS, HC⟩, HB, Hst, Hrest⟩
  imod hinv $$ [HS HC HB Hst] with Hinv
  · isplitl [HS HC HB]
    · rw [bigSep_three]
      isplitl [HB]; · iexact HB
      isplitl [HS] <;> iassumption
    · iexact Hst
  imodintro
  isplitl [Hinv] <;> iassumption

/-- The rules and round marks of every cell; these may be shared. -/
def common (K : Dev nD × Fin 3 → ℕ) : sProp 𝕄 :=
  iprop((bigSep Finset.univ fun ck : Dev nD × Fin 3 => cellInv ER (plan m ρ) (K ck) (cellOfPair ck))
    ∗ bigSep Finset.univ fun ck : Dev nD × Fin 3 => reached ER (cellOfPair ck) 0)

instance common_persistent (K : Dev nD × Fin 3 → ℕ) : BI.Persistent (common m ρ K) := by unfold common; infer_instance

theorem common_inv (K : Dev nD × Fin 3 → ℕ) (c : Dev nD) (k : Fin 3) : common m ρ K ⊢ cellInv ER (plan m ρ) (K (c, k)) (cellAt c k) := by
  have h : (bigSep Finset.univ fun ck : Dev nD × Fin 3 => (cellInv ER (plan m ρ) (K ck) (cellOfPair ck) : sProp 𝕄)) ⊢ cellInv ER (plan m ρ) (K (c, k)) (cellAt c k) :=
    bigSep_elim (Finset.mem_univ (c, k))
  unfold common
  iintro ⟨H, -⟩
  iapply h; iexact H
theorem common_reached (K : Dev nD × Fin 3 → ℕ) (c : Dev nD) (k : Fin 3) : common m ρ K ⊢ reached ER (cellAt c k) 0 := by
  have h : (bigSep Finset.univ fun ck : Dev nD × Fin 3 => (reached ER (cellOfPair ck) 0 : sProp 𝕄)) ⊢ reached ER (cellAt c k) 0 :=
    bigSep_elim (Finset.mem_univ (c, k))
  unfold common
  iintro ⟨-, H⟩
  iapply h; iexact H

theorem ghost_intro (K : Dev nD × Fin 3 → ℕ) (c : Dev nD) : iprop(common m ρ K ∗ places c ∗ duesOf c) ⊢ ready m ρ c := by
  unfold ready ghost rules fresh
  iintro ⟨#H, Hp, Hd⟩
  iexists K
  isplitr
  · isplitr
    · isplitr; · iapply (common_inv m ρ K c 0); iexact H
      isplitr; · iapply (common_inv m ρ K c 1); iexact H
      iapply (common_inv m ρ K c 2); iexact H
    · isplitr; · iapply (common_inv m ρ K (mate c) 0); iexact H
      iapply (common_inv m ρ K (mate c) 2); iexact H
  isplitr
  · isplitr; · iapply (common_reached m ρ K (mate c) 0); iexact H
    isplitr; · iapply (common_reached m ρ K c 1); iexact H
    isplitr; · iapply (common_reached m ρ K (mate c) 2); iexact H
    iapply (common_reached m ρ K c 2); iexact H
  isplitl [Hp] <;> iassumption

omit [FloatOps F] in
/-- Mates exchange the duties of their barrier and arrival semaphores. -/
theorem exchange : (bigSep Finset.univ fun c : Dev nD => (ownDuties c : sProp 𝕄)) ⊢ bigSep Finset.univ fun c : Dev nD => duesOf c := by
  unfold ownDuties duesOf
  simp only [bigSep_three, bigSep_sep']
  rw [bigSep_univ_equiv swap (fun c : Dev nD => (dutyTok ER (cellAt c 0) 0 () : sProp 𝕄)),
    bigSep_univ_equiv swap (fun c : Dev nD => (dutyTok ER (cellAt c 2) 0 () : sProp 𝕄))]
  exact BI.Entails.refl _

omit [FloatOps F] in
theorem bigSep_share {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (plan m ρ) κ (cellAt c k)))
          ∗ (bigSep Finset.univ fun k => iprop(atPos ER (cellAt c k) 0 ∅ 0 ∗ reached ER (cellAt c k) 0)) ∗ ownDuties c) : sProp 𝕄)
      ⊢ bigSep Finset.univ (ready m ρ) := by
  have hplaces : iprop((bigSep Finset.univ fun c : Dev nD => bigSep Finset.univ fun k : Fin 3 => (atPos ER (cellAt c k) 0 ∅ 0 : sProp 𝕄))
      ∗ bigSep Finset.univ fun c : Dev nD => duesOf c) ⊢ bigSep Finset.univ fun c : Dev nD => iprop(places c ∗ duesOf c) := by
    rw [bigSep_sep']
    exact sep_mono_left (Entails.of_eq (bigSep_congr fun c _ => by unfold places; rw [bigSep_three]))
  rw [bigSep_sep', bigSep_sep', ← bigSep_univ_prod (fun ck : Dev nD × Fin 3 => iprop(∃ κ : ℕ, cellInv ER (plan m ρ) κ (cellOfPair ck))),
    bigSep_congr (s := Finset.univ) (fun (c : Dev nD) _ => bigSep_sep' Finset.univ (fun k : Fin 3 => (atPos ER (cellAt c k) 0 ∅ 0 : sProp 𝕄)) (fun k => reached ER (cellAt c k) 0)),
    bigSep_sep', ← bigSep_univ_prod (fun ck : Dev nD × Fin 3 => (reached ER (cellOfPair ck) 0 : sProp 𝕄))]
  iintro ⟨HI, ⟨Hat, #HR⟩, Htok⟩
  ihave HK := (BI.bigSep_exists_pi Finset.univ (fun (ck : Dev nD × Fin 3) (κ : ℕ) => (cellInv ER (plan m ρ) κ (cellOfPair ck) : sProp 𝕄))) $$ HI
  icases HK with ⟨%K, #HI⟩
  ihave Htok := (exchange (F := F)) $$ Htok
  iapply (bigSep_share (R := common m ρ K) (Φ := fun c : Dev nD => iprop(places c ∗ duesOf c)) fun c _ => ghost_intro m ρ K c)
  isplitr
  · unfold common; isplitl; · iexact HI
    iexact HR
  · iapply hplaces
    isplitl [Hat] <;> iassumption

theorem glob : (bigSep Finset.univ fun c => iprop(Pipeline.ownSems0 (Ix := Unit) (Name := ℕ) (U := UU) (Lvl := ℕ) (Val := Elt F) (τ := τ) ownSem c ∗ unscopedSems0 c ∗ dealt m ρ c) : sProp 𝕄)
    ⊢ |={Set.univ}=> bigSep Finset.univ (ready m ρ) :=
  ((bigSep_mono fun c _ => cells_alloc m ρ c).trans (bigSep_fupd _ _)).trans (BI.fupd_mono (regroup m ρ))

/-! ## The credit at launch is what the devices owe -/

/-- What device `d` owes at launch to semaphore `k` of device `c`: something only if `d` is `c`'s mate and `k` is not the
    sent semaphore. -/
theorem owed_at (d c : Dev nD) (k : Fin 3) (hk : k ≠ 1) : owed₀ d (cellAt c k) () = if d = mate c then units k else 0 := by
  have hd : ∀ l : Fin 3, cellAt c k = cellAt (mate d) l ↔ d = mate c ∧ k = l := fun l => by
    rw [cell_eq_iff]
    exact and_congr_left fun _ => ⟨fun h => by rw [h, mate_mate], fun h => by rw [h, mate_mate]⟩
  unfold owed₀ owedCopy
  rw [Pi.add_apply, Finsupp.add_apply, tallyAt_apply, tallyAt_apply]
  simp only [hd, and_true]
  by_cases h : d = mate c
  · fin_cases k
    · simp [h, units]
    · exact absurd rfl hk
    · simp [h, units]
  · simp [h]

theorem launch_at (c : Dev nD) (k : Fin 3) (hk : k ≠ 1) :
    tallyOn (cellAt c k) (launchCredit (Pipeline.owing owed₀) 0 (cellAt c k)) = (tallyAt (cellAt c k) () (units k) : CellTallies nD τ sig Unit) := by
  unfold tallyAt; refine congrArg _ (Finsupp.ext fun u => ?_); cases u
  rw [Pipeline.launchCredit_owing, Finsupp.single_eq_same, Finset.sum_congr rfl fun d _ => owed_at d c k hk,
    Finset.sum_ite_eq' Finset.univ (mate c) fun _ => units k, if_pos (Finset.mem_univ _)]

omit [FloatOps F] in
theorem creds (c : Dev nD) :
    (Pipeline.launchCred owed₀ c : sProp 𝕄) ⊢ iprop(cred (tallyAt (cellAt c 0) () 1) ∗ cred (tallyAt (cellAt c 2) () N)) := by
  unfold Pipeline.launchCred
  rw [bigSep_univ_at _ (semOf 0), launch_at c 0 (by decide)]
  refine sep_mono_right ?_
  rw [show N = units 2 from rfl, ← launch_at c 2 (by decide)]
  exact bigSep_elim (Finset.mem_erase.mpr ⟨fun h => absurd (semOf_injective h) (by decide), Finset.mem_univ (semOf 2)⟩)

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ ready m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start ready
  isplitl
  · isplitl [HG]; · iexact HG
    isplitl [H1]; · iexact H1
    isplitl [HN] <;> iassumption
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m ρ c from rfl, scopedRest0_eq]
  unfold before
  iintro ⟨Hs, -, ⟨%f, Hp⟩, ⟨%f', Hl⟩⟩
  isplitl [Hs]; · iexact Hs
  isplitl [Hp]
  · iexists f; rw [packPts_eq]; iexact Hp
  iexists f'; rw [landPts_eq]; iexact Hl

theorem leave (c : Dev nD) :
    (dats m ρ 0 c).Φ (Fin.last cfg0.N) ⊢ iprop(unscopedSems0 c ∗ Pipeline.ownSems0 ownSem c ∗ Pipeline.scopedRest cfg0.spec c) := by
  rw [show (dats m ρ 0 c).Φ (Fin.last cfg0.N) = afterwards m ρ c from rfl, scopedRest0_eq, ownSems0_eq, unscopedSems0_eq]
  unfold afterwards
  rw [packPts_eq, landPts_eq]
  iintro ⟨Hp, Hl, HB, HS, HC⟩
  isplitl [HB]; · iexact HB
  isplitl [HS HC]
  · isplitl [HS] <;> iassumption
  isplitl [Hp]
  · iexists (packed m ρ c); iexact Hp
  iexists (landed m ρ c); iexact Hl

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- Every window's array at the end is what the pipeline writes there. -/
def arraysDone : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 8000 in
/-- Every weakly fair run of `@main` on the four devices, from any memory with counters at zero, terminates with every
    window's array written out and every counter at zero. -/
theorem run_arrays : θ_run defs (onTc (τ := τ) (main (F := F))) (start₀ m ρ) (fun r => arraysDone m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owed₀) (howed₀ := fun _ => rfl) (howedN := fun _ => rfl)
    (L := L) (lv := lv) (hL := L_of_ne) (hwaits := waits m ρ)
    (G := dealt m ρ) (G' := ready m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Meeting

end
-- ==== Proof.Run.lean ====
/-
# What the mesh computes, read at the arrays of `@main`

Each window is one whole array, so a staged block is the device's argument and the result array ends as the body left its
staging buffer.
-/
module

public import proofs.«01_k».proof.Proof.Launch
public import Idealize.ShloMosaic.Lib.Pipeline.ValueKit.Geometry

@[expose] public section

noncomputable section

namespace Cert.KernelIdeal.Meeting

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- The staged block of `x` is the device's `x`, -/
theorem xIn_eq (c : Dev nD) : xIn m ρ c = m ((c : Thread nD τ).loc main_arg0) :=
  Memref.read_access_unit_zero (Elt F) main_arg0 (funext fun a => by fin_cases a <;> decide) (fun a => by fin_cases a <;> decide) _

/-- that of `gamma` the device's `gamma`, -/
theorem gIn_eq (c : Dev nD) : gIn m ρ c = m ((c : Thread nD τ).loc main_arg1) :=
  Memref.read_access_unit_zero (Elt F) main_arg1 (funext fun a => by fin_cases a; decide) (fun a => by fin_cases a; decide) _

/-- and the result array ends holding what the body computes. -/
theorem result_array (c : Dev nD) : (dats m ρ 0 c).arrAt (2 : Fin 3) cfg0.N = result m ρ c := by
  have h := (dats m ρ 0 c).arrAt_succ (2 : Fin 3) (0 : Fin 1)
  rw [show (cfg0.win (2 : Fin 3)).flush (0 : Fin 1) = true from by decide, if_pos rfl] at h
  have hr : (win0_2.blk (0 : Fin 1)).view.read (Elt F) ((dats m ρ 0 c).arrAt (2 : Fin 3) cfg0.N) = result m ρ c := by
    rw [show cfg0.N = ((0 : Fin 1) : Fin cfg0.N).val + 1 from rfl, h]
    exact View.read_write_univ _ _
  exact (Memref.read_access_unit_zero (Elt F) main_v1 (funext fun a => by fin_cases a <;> decide) (fun a => by fin_cases a <;> decide) _).symm.trans hr

/-- The run of `@main` at any float operations: it terminates; device `c`'s result is `outOf` of its own block of `x`, its
    row mate's and its block of `gamma`; both arguments are unchanged; every semaphore counter is zero at the end. -/
theorem run_main : θ_run defs (onTc (τ := τ) (main (F := F))) ⟨m, fun _ => 0, ρ⟩ (fun r =>
    (∀ c : Dev nD,
      r.2.mem ((c.tc : Thread nD τ).loc main_v1)
          = outOf (m ((c.tc : Thread nD τ).loc main_arg0)) (m (((mate c).tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
    ∧ r.2.sem = fun _ => 0) := by
  refine (θ_run defs _ _).mono (fun r h => ⟨fun c => ⟨?_, ?_, ?_⟩, h.2⟩) (run_arrays m ρ)
  · refine (h.1 c (2 : Fin 3)).trans ((result_array m ρ c).trans ?_)
    unfold result
    rw [xIn_eq, xIn_eq, gIn_eq]
  · exact (h.1 c (0 : Fin 3)).trans ((dats m ρ 0 c).arrAt_in (0 : Fin 3) rfl _)
  · exact (h.1 c (1 : Fin 3)).trans ((dats m ρ 0 c).arrAt_in (1 : Fin 3) rfl _)

end Cert.KernelIdeal.Meeting

end
-- ==== Proof.Packing.lean ====
/-
# Packing and unpacking row sums

A device has one sum of squares per row, 1024 of them in a column. It sends them as 8 × 128: row `r` goes to place
`(r / 128, r mod 128)`. The kernel moves them there, and back, by products with matrices of zeros and ones. This module reads
those products in exact arithmetic: each picks a single entry, also where a sum of squares is infinite, since zero times
anything is zero.
-/
module

public import proofs.«01_k».proof.Proof.Meeting
public import Idealize.ShloMosaic.Lib.Pointwise

@[expose] public section

noncomputable section

namespace Cert.KernelIdeal.Packing

open Cert.KernelIdeal Cert.KernelIdeal.Gen Idealize.ShloMosaic
open Cert.KernelIdeal.Meeting (packOf outOf)

/-! ## The words -/

/-- Remainder by 128 as the kernel computes it, sign correction included. -/
abbrev remWord (w : BitVec 32) : BitVec 32 :=
  Scalar.select
    (IntOp.andi
      (IntOp.xori
        (IntOp.cmpi .slt (IntOp.remsi .vector w (Scalar.select (Scalar.cmpi .eq 128#32 0#32) 1#32 128#32)) 0#32)
        (Scalar.cmpi .slt (Scalar.select (Scalar.cmpi .eq 128#32 0#32) 1#32 128#32) 0#32))
      (IntOp.cmpi .ne (IntOp.remsi .vector w (Scalar.select (Scalar.cmpi .eq 128#32 0#32) 1#32 128#32)) 0#32))
    (IntOp.addi (IntOp.remsi .vector w (Scalar.select (Scalar.cmpi .eq 128#32 0#32) 1#32 128#32))
      (Scalar.select (Scalar.cmpi .eq 128#32 0#32) 1#32 128#32))
    (IntOp.remsi .vector w (Scalar.select (Scalar.cmpi .eq 128#32 0#32) 1#32 128#32))

/-- Floor division by 128 as the kernel computes it, sign correction included. -/
abbrev divWord (w : BitVec 32) : BitVec 32 :=
  Scalar.select
    (IntOp.andi
      (IntOp.cmpi .ne
        (IntOp.subi (BitVec.setWidth 32 (IntOp.cmpi .sgt w 0#32)) (BitVec.setWidth 32 (IntOp.cmpi .slt w 0#32)))
        (Scalar.subi (Scalar.extui (Scalar.cmpi .sgt 128#32 0#32)) (Scalar.extui (Scalar.cmpi .slt 128#32 0#32))))
      (IntOp.cmpi .ne (IntOp.remsi .vector w 128#32) 0#32))
    (IntOp.subi (IntOp.divsi .vector w 128#32) 1#32)
    (IntOp.divsi .vector w 128#32)

theorem remWord_row : ∀ r : Fin 1024, remWord (BitVec.ofNat 32 r) = BitVec.ofNat 32 (r.val % 128) := by decide +kernel
theorem divWord_row : ∀ r : Fin 1024, divWord (BitVec.ofNat 32 r) = BitVec.ofNat 32 (r.val / 128) := by decide +kernel

/-- A comparison of two small numbers, made a float: one where they are equal, zero elsewhere. -/
theorem indicator (a b : ℕ) (ha : a < 1024) (hb : b < 1024) :
    (FloatOps.sitofp (F := Ideal) .f32 (BitVec.setWidth 32 (IntOp.cmpi .eq (BitVec.ofNat 32 a) (BitVec.ofNat 32 b))) : EReal)
      = if a = b then 1 else 0 := by
  have h : (BitVec.ofNat 32 a = BitVec.ofNat 32 b) ↔ a = b := by
    constructor
    · intro e
      have := congrArg BitVec.toNat e
      rwa [BitVec.toNat_ofNat, BitVec.toNat_ofNat, Nat.mod_eq_of_lt (by omega), Nat.mod_eq_of_lt (by omega)] at this
    · rintro rfl; rfl
  show (((BitVec.setWidth 32 (BitVec.ofBool (BitVec.ofNat 32 a == BitVec.ofNat 32 b))).toInt : ℝ) : EReal) = _
  by_cases e : a = b
  · subst e; simp
  · rw [if_neg e, show (BitVec.ofNat 32 a == BitVec.ofNat 32 b) = false from beq_eq_false_iff_ne.mpr fun h' => e (h.mp h')]
    simp

/-! ## One entry of a sum -/

/-- Of the terms over `8 × 128` rows only the one at row `128 b + l` is kept. -/
theorem sum_pick (f : Fin 1024 → EReal) (b : Fin 8) (l : Fin 128) :
    ∑ r : Fin 1024, (if r.val / 128 = b.val then (1 : EReal) else 0) * ((if r.val % 128 = l.val then 1 else 0) * f r)
      = f ⟨128 * b.val + l.val, by omega⟩ := by
  rw [Finset.sum_eq_single (⟨128 * b.val + l.val, by omega⟩ : Fin 1024)]
  · rw [if_pos (by show (128 * b.val + l.val) / 128 = _; omega), if_pos (by show (128 * b.val + l.val) % 128 = _; omega), one_mul, one_mul]
  · intro r _ hr
    by_cases h : r.val / 128 = b.val
    · rw [if_neg (c := r.val % 128 = l.val) fun h' => hr (Fin.ext (by show r.val = 128 * b.val + l.val; omega)), zero_mul, mul_zero]
    · rw [if_neg h, zero_mul]
  · intro h; exact absurd (Finset.mem_univ _) h

/-- Of the `8 × 128` places only `(r / 128, r mod 128)` is kept. -/
theorem sum_place (f : Fin 8 → Fin 128 → EReal) (r : Fin 1024) :
    ∑ l : Fin 128, (∑ b : Fin 8, (if r.val / 128 = b.val then (1 : EReal) else 0) * f b l) * (if r.val % 128 = l.val then 1 else 0)
      = f ⟨r.val / 128, by omega⟩ ⟨r.val % 128, by omega⟩ := by
  rw [Finset.sum_eq_single (⟨r.val % 128, by omega⟩ : Fin 128), if_pos rfl, mul_one,
    Finset.sum_eq_single (⟨r.val / 128, by omega⟩ : Fin 8), if_pos rfl, one_mul]
  · intro b _ hb
    rw [if_neg fun h => hb (Fin.ext h.symm), zero_mul]
  · intro h; exact absurd (Finset.mem_univ _) h
  · intro l _ hl
    rw [if_neg fun h => hl (Fin.ext h.symm), mul_zero]
  · intro h; exact absurd (Finset.mem_univ _) h

/-! ## The kernel's values at an index -/

/-- The sum of the squares of row `r` of a block. -/
def sumSq (x : FVec Ideal S1024x512 .f32) (r : Fin 1024) : EReal := ∑ k : Fin 512, x (ix2 r k) * x (ix2 r k)

theorem rowSums (x : FVec Ideal S1024x512 .f32) (r : Fin 1024) (z : Fin 1) : (k0_pay3 (F := Ideal) x (ix2 r z) : EReal) = sumSq x r := by
  pointwise [k0_pay3, k0_pay2, sumSq]

theorem lanes (r : Fin 1024) (l : Fin 128) : (k0_pay4 (F := Ideal) (ix2 r l) : EReal) = if r.val % 128 = l.val then 1 else 0 := by
  have h : (k0_pay4 (F := Ideal) (ix2 r l) : EReal)
      = FloatOps.sitofp (F := Ideal) .f32 (BitVec.setWidth 32 (IntOp.cmpi .eq (remWord (BitVec.ofNat 32 r)) (BitVec.ofNat 32 l))) := by
    pointwise [k0_pay4]
  rw [h, remWord_row]
  exact indicator _ _ (by omega) (by omega)

/-- Place `(b, l)` of the packed sums holds row `128 b + l`'s. -/
theorem packOf_at (x : FVec Ideal S1024x512 .f32) (b : Fin 8) (l : Fin 128) :
    packOf x (ix2 b l) = sumSq x ⟨128 * b.val + l.val, by omega⟩ := by
  have h : packOf x (ix2 b l) = ∑ r : Fin 1024,
      (FloatOps.sitofp (F := Ideal) .f32 (BitVec.setWidth 32 (IntOp.cmpi .eq (divWord (BitVec.ofNat 32 r)) (BitVec.ofNat 32 b))) : EReal)
        * (k0_pay4 (F := Ideal) (ix2 r l) * k0_pay3 (F := Ideal) x (ix2 r 0)) := by
    unfold packOf
    generalize k0_pay3 (F := Ideal) x = s
    generalize k0_pay4 (F := Ideal) = e
    pointwise [k0_pay5]
  rw [h, ← sum_pick (sumSq x) b l]
  refine Finset.sum_congr rfl fun r _ => ?_
  rw [divWord_row, indicator _ _ (by omega) (by omega), lanes, rowSums]

/-- Unpacking the sum of two packings gives back, at row `r`, the sum of the two rows' values. -/
theorem unpack_at (x x' : FVec Ideal S1024x512 .f32) (r : Fin 1024) (z : Fin 1) :
    k0_pay8 (k0_pay4 (F := Ideal)) (packOf x) (packOf x') (ix2 r z) = sumSq x r + sumSq x' r := by
  have h : k0_pay8 (k0_pay4 (F := Ideal)) (packOf x) (packOf x') (ix2 r z) = ∑ l : Fin 128, (∑ b : Fin 8,
      (FloatOps.sitofp (F := Ideal) .f32 (BitVec.setWidth 32 (IntOp.cmpi .eq (divWord (BitVec.ofNat 32 r)) (BitVec.ofNat 32 b))) : EReal)
        * (packOf x (ix2 b l) + packOf x' (ix2 b l))) * k0_pay4 (F := Ideal) (ix2 r l) := by
    generalize k0_pay4 (F := Ideal) = e
    generalize packOf x = p
    generalize packOf x' = q
    pointwise [k0_pay8]
  rw [h]
  have hp := sum_place (fun b l => packOf x (ix2 b l) + packOf x' (ix2 b l)) r
  rw [packOf_at, packOf_at, show (⟨128 * (⟨r.val / 128, by omega⟩ : Fin 8).val + (⟨r.val % 128, by omega⟩ : Fin 128).val, by
    show 128 * (r.val / 128) + r.val % 128 < 1024; omega⟩ : Fin 1024) = r from Fin.ext (by show 128 * (r.val / 128) + r.val % 128 = _; omega)] at hp
  rw [← hp]
  refine Finset.sum_congr rfl fun l _ => ?_
  rw [lanes]
  refine congrArg (· * _) (Finset.sum_congr rfl fun b _ => ?_)
  rw [divWord_row, indicator _ _ (by omega) (by omega)]

/-- A device's result at row `r` and column `l` of its block, in exact arithmetic: the entry times `gamma`'s, times the
    inverse square root of the mean of squares over the row of the whole `x`, half of it from the mate. -/
theorem outOf_at (x x' : FVec Ideal S1024x512 .f32) (g : FVec Ideal S512 .f32) (r : Fin 1024) (l : Fin 512) :
    outOf x x' g (ix2 r l) = x (ix2 r l) * g (ix1 l)
      * Ideal.rsqrt ((sumSq x r + sumSq x' r) * Ideal.ofBits .f32 0x3A800000#32 + Ideal.ofBits .f32 0x3727C5AC#32) := by
  unfold outOf
  rw [← unpack_at x x' r 0]
  generalize k0_pay8 (k0_pay4 (F := Ideal)) (packOf x) (packOf x') = v
  pointwise [k0_pay1, k0_pay7, k0_pay2, k0_pay6]

end Cert.KernelIdeal.Packing

end
-- ==== Proof.Scaling.lean ====
/-
# Multiplying by an inverse square root against dividing by a square root

The kernel multiplies by the reciprocal square root of `s · 2⁻¹⁰ + ε`, the reference divides by the square root of
`s / 1024 + ε`. Both mean the same for every sum of squares `s`, infinite ones included, since then one factor is zero and the
other a division by infinity.
-/
module

public import Idealize.ShloMosaic.PureOps.Ideal.Laws

@[expose] public section

noncomputable section

namespace Cert.Scaling

open Idealize.ShloMosaic

/-- The kernel's factor is `1 / 1024`, -/
theorem lit_inv1024 : Ideal.ofBits .f32 0x3A800000#32 = ((1 / 1024 : ℝ) : EReal) := by
  simp [Ideal.ofBits, Ideal.ieee, -EReal.coe_mul]; norm_num
/-- the reference's divisor is `1024`, -/
theorem lit_1024 : Ideal.ofBits .f32 0x44800000#32 = ((1024 : ℝ) : EReal) := by
  simp [Ideal.ofBits, Ideal.ieee, -EReal.coe_mul]; norm_num
/-- and both add the same positive number. -/
theorem lit_eps : Ideal.ofBits .f32 0x3727C5AC#32 = ((10995116 / 1099511627776 : ℝ) : EReal) := by
  simp [Ideal.ofBits, Ideal.ieee, -EReal.coe_mul]; norm_num

/-- A square of an extended real is not negative. -/
theorem mul_self_nonneg (a : EReal) : 0 ≤ a * a := by
  induction a with
  | bot => simp
  | top => simp
  | coe r => rw [← EReal.coe_mul]; exact_mod_cast _root_.mul_self_nonneg r

/-- For a positive `w`, finite or not, multiplying by its reciprocal square root divides by its square root. -/
theorem mul_rsqrt (y w : EReal) (hw : 0 < w) : y * Ideal.rsqrt w = Ideal.div y (Ideal.sqrt w) := by
  induction w with
  | bot => exact absurd hw (by simp)
  | top =>
    rw [Ideal.rsqrt_top, Ideal.sqrt_top]
    unfold Ideal.div
    rw [if_neg (by simp), EReal.inv_top]
  | coe r =>
    have hr : 0 < r := by exact_mod_cast hw
    have hs : Real.sqrt r ≠ 0 := (Real.sqrt_pos.mpr hr).ne'
    rw [Ideal.rsqrt_coe, Ideal.sqrt_coe, if_neg (not_lt.mpr hr.le), if_neg hr.ne', if_neg (not_lt.mpr hr.le)]
    unfold Ideal.div
    rw [if_neg (by exact_mod_cast hs), EReal.coe_inv]

/-- The entry of the kernel's result is that of the reference's. -/
theorem scaled (a g s : EReal) (hs : 0 ≤ s) :
    a * g * Ideal.rsqrt (s * Ideal.ofBits .f32 0x3A800000#32 + Ideal.ofBits .f32 0x3727C5AC#32)
      = Ideal.div (g * a) (Ideal.sqrt (Ideal.div s (Ideal.ofBits .f32 0x44800000#32) + Ideal.ofBits .f32 0x3727C5AC#32)) := by
  rw [lit_inv1024, lit_1024, lit_eps, Ideal.div_coe (by norm_num : (1024 : ℝ) ≠ 0) s, mul_comm a g]
  refine mul_rsqrt _ _ ?_
  have h1 : (0 : EReal) ≤ s * ((1 / 1024 : ℝ) : EReal) := mul_nonneg hs (by exact_mod_cast (by norm_num : (0 : ℝ) ≤ 1 / 1024))
  have h2 : (0 : EReal) < ((10995116 / 1099511627776 : ℝ) : EReal) := by exact_mod_cast (by norm_num : (0 : ℝ) < 10995116 / 1099511627776)
  exact lt_of_lt_of_le h2 (le_add_of_nonneg_left h1)

end Cert.Scaling

end
-- ==== Proof.Blocks.lean ====
/-
# The mesh's result is the reference's, cut in blocks

Device `2 i + j` holds rows `1024 i …` and columns `512 j …` of `x`, and entries `512 j …` of `gamma`. A row of `x` is the
device's 512 entries of it and its mate's, so the two sums of squares add to the whole row's.
-/
module

public import proofs.«01_k».proof.Proof.Packing
public import proofs.«01_k».proof.Proof.Scaling
public import proofs.«01_k».proof.Proof.Gen.ReferenceIdeal.Read
public import Idealize.ShloMosaic.Lib.Layout

@[expose] public section

noncomputable section

namespace Cert.Blocks

open Idealize.ShloMosaic
open Cert.KernelIdeal (S1024x512 S512)
open Cert.KernelIdeal.Meeting (mate outOf)
open Cert.KernelIdeal.Packing (sumSq)
open Cert.ReferenceIdeal (S2048x1024 S1024)
open Cert.ReferenceIdeal.Read

/-- Device `c`'s block of a whole array of the shape of `x`, -/
abbrev blockOf {α : Type} (c : Fin 4) (X : S2048x1024.Idx → α) : S1024x512.Idx → α :=
  Layout.blockN ⟨2, ![1024, 512]⟩ ⟨2, ![2048, 1024]⟩ (Layout.meshBlock [2, 2] ![[0], [1]] c) X
/-- and of one of the shape of `gamma`. -/
abbrev gammaOf {α : Type} (c : Fin 4) (G : S1024.Idx → α) : S512.Idx → α :=
  Layout.blockN ⟨1, ![512]⟩ ⟨1, ![1024]⟩ (Layout.meshBlock [2, 2] ![[1]] c) G

/-- The whole array's row that is row `r` of device `c`'s block, -/
def rowAt (c : Fin 4) (r : Fin 1024) : Fin 2048 := ⟨1024 * (c.val / 2) + r.val, by omega⟩
/-- and its column that is column `l`. -/
def colAt (c : Fin 4) (l : Fin 512) : Fin 1024 := ⟨512 * (c.val % 2) + l.val, by omega⟩

theorem rowAt_mate (c : Fin 4) (r : Fin 1024) : rowAt (mate c) r = rowAt c r := by
  apply Fin.ext
  show 1024 * ((2 * (c.val / 2) + 1 - c.val % 2) / 2) + r.val = 1024 * (c.val / 2) + r.val
  omega

theorem blockOf_at {α : Type} (c : Fin 4) (X : S2048x1024.Idx → α) (r : Fin 1024) (l : Fin 512) :
    blockOf c X (ix2 r l) = X (ix2 (rowAt c r) (colAt c l)) := by
  refine (Layout.blockN_apply _ X _ _).trans (congrArg X (funext fun b => Fin.ext ?_))
  rw [Layout.TilesN.idx_val]
  revert c
  fin_cases b
  · intro c
    have h : ∀ c : Fin 4, ((Layout.meshBlock [2, 2] ![[0], [1]] c (by decide) (0 : Fin 2)).val : ℕ) = c.val / 2 := by decide
    show (Layout.meshBlock [2, 2] ![[0], [1]] c (by decide) (0 : Fin 2)).val * 1024 + r.val = 1024 * (c.val / 2) + r.val
    rw [h, Nat.mul_comm]
  · intro c
    have h : ∀ c : Fin 4, ((Layout.meshBlock [2, 2] ![[0], [1]] c (by decide) (1 : Fin 2)).val : ℕ) = c.val % 2 := by decide
    show (Layout.meshBlock [2, 2] ![[0], [1]] c (by decide) (1 : Fin 2)).val * 512 + l.val = 512 * (c.val % 2) + l.val
    rw [h, Nat.mul_comm]

theorem gammaOf_at {α : Type} (c : Fin 4) (G : S1024.Idx → α) (l : Fin 512) : gammaOf c G (ix1 l) = G (ix1 (colAt c l)) := by
  refine (Layout.blockN_apply _ G _ _).trans (congrArg G (funext fun b => Fin.ext ?_))
  rw [Layout.TilesN.idx_val]
  fin_cases b
  have h : ∀ c : Fin 4, ((Layout.meshBlock [2, 2] ![[1]] c (by decide) (0 : Fin 1)).val : ℕ) = c.val % 2 := by decide
  show (Layout.meshBlock [2, 2] ![[1]] c (by decide) (0 : Fin 1)).val * 512 + l.val = 512 * (c.val % 2) + l.val
  rw [h, Nat.mul_comm]

/-- A sum over a whole row is a device's half and its mate's, whichever comes first. -/
theorem sum_halves (f : Fin 1024 → EReal) (c : Fin 4) :
    ∑ k : Fin 1024, f k = (∑ l : Fin 512, f (colAt c l)) + ∑ l : Fin 512, f (colAt (mate c) l) := by
  have h := Fin.sum_univ_add (M := EReal) (a := 512) (b := 512) f
  have hl : ∀ d : Fin 4, d.val % 2 = 0 → ∑ l : Fin 512, f (colAt d l) = ∑ l : Fin 512, f (Fin.castAdd 512 l) := fun d hd =>
    Finset.sum_congr rfl fun l _ => congrArg f (Fin.ext (by show 512 * (d.val % 2) + l.val = l.val; omega))
  have hr : ∀ d : Fin 4, d.val % 2 = 1 → ∑ l : Fin 512, f (colAt d l) = ∑ l : Fin 512, f (Fin.natAdd 512 l) := fun d hd =>
    Finset.sum_congr rfl fun l _ => congrArg f (Fin.ext (by show 512 * (d.val % 2) + l.val = 512 + l.val; omega))
  have hm : (mate c).val = 2 * (c.val / 2) + 1 - c.val % 2 := rfl
  refine h.trans ?_
  rcases Nat.mod_two_eq_zero_or_one c.val with h0 | h1
  · rw [hl c h0, hr (mate c) (by omega)]
  · rw [hr c h1, hl (mate c) (by omega), add_comm]

/-- The reference at row `R` and column `C`: `gamma` times the entry, over the square root of the row's mean of squares. -/
theorem reference_at (X : FVec Ideal S2048x1024 .f32) (G : FVec Ideal S1024 .f32) (R : Fin 2048) (C : Fin 1024) :
    (val_main_v12 (F := Ideal) X G (ix2 R C) : EReal)
      = Ideal.div (G (ix1 C) * X (ix2 R C))
          (Ideal.sqrt (Ideal.div (∑ k : Fin 1024, X (ix2 R k) * X (ix2 R k)) (Ideal.ofBits .f32 0x44800000#32) + Ideal.ofBits .f32 0x3727C5AC#32)) := by
  rw [val_main_v12_apply, val_main_v11_apply, val_main_v10_apply, val_main_v9_apply, val_main_v8_apply, val_main_v7_apply, val_main_v6_apply,
    val_main_v5_apply, val_main_v4_apply, val_main_v3_apply, val_main_v2_apply, val_main_v1_apply, val_main_cst_1_apply, val_main_cst_0_apply, val_main_cst_apply]
  have hz : (FloatOps.ofBits (F := Ideal) .f32 0x00000000#32 : EReal) = 0 := by
    show Ideal.ofBits .f32 0x00000000#32 = 0
    simp [Ideal.ofBits, Ideal.ieee]
  rw [hz, zero_add]
  have hG : idx_main_v8 (idx_main_v9 (ix2 R C)) = ix1 C := funext fun a => by fin_cases a; rfl
  have hX : ∀ k, idx_main_v1 (idx_main_v2 (idx_main_v11 (ix2 R C))) k = ix2 R k := fun k => funext fun a => by fin_cases a <;> rfl
  rw [hG]
  simp only [val_main_v0_apply, hX]
  rfl

/-- One entry of a device's result is that entry of its block of the reference's. -/
theorem value_at (c : Fin 4) (X : FVec Ideal S2048x1024 .f32) (G : FVec Ideal S1024 .f32) (r : Fin 1024) (l : Fin 512) :
    (outOf (F := Ideal) (blockOf c X) (blockOf (mate c) X) (gammaOf c G) (ix2 r l) : EReal)
      = blockOf c (val_main_v12 (F := Ideal) X G) (ix2 r l) := by
  have hs : sumSq (blockOf c X) r + sumSq (blockOf (mate c) X) r
      = (∑ k : Fin 1024, X (ix2 (rowAt c r) k) * X (ix2 (rowAt c r) k) : EReal) := by
    unfold sumSq
    rw [sum_halves _ c]
    refine congrArg₂ (· + ·) (Finset.sum_congr rfl fun k _ => ?_) (Finset.sum_congr rfl fun k _ => ?_)
    · rw [blockOf_at]
    · rw [blockOf_at, rowAt_mate]
  rw [Cert.KernelIdeal.Packing.outOf_at, hs, blockOf_at, gammaOf_at]
  refine (Cert.Scaling.scaled _ _ _ (Finset.sum_nonneg fun k _ => Cert.Scaling.mul_self_nonneg _)).trans ?_
  exact ((blockOf_at c (val_main_v12 (F := Ideal) X G) r l).trans (reference_at X G _ _)).symm

/-- In exact arithmetic each device's result is its block of the reference's. -/
theorem value (c : Fin 4) (X : FVec Ideal S2048x1024 .f32) (G : FVec Ideal S1024 .f32) :
    outOf (F := Ideal) (blockOf c X) (blockOf (mate c) X) (gammaOf c G) = blockOf c (val_main_v12 (F := Ideal) X G) :=
  funext fun i => (congrArg _ (eq_ix2 i)).trans ((value_at c X G (i 0) (i 1)).trans (congrArg _ (eq_ix2 i).symm))

end Cert.Blocks

end
-- ==== Proof.lean ====
/-
# The five claims

Assembles `Cert.Claim` (proofs.«01_k».proof.Defs) from the run of the kernel (`Proof/Run.lean`), the run of the reference
(generated) and the equality of the two results in exact arithmetic (`Proof/Blocks.lean`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.Blocks
public import Idealize.ShloMosaic.Adequacy
public import Idealize.ShloMosaic.Init

@[expose] public section

noncomputable section

namespace Cert.Proof

open Idealize.ShloMosaic Idealize.SL.Sem Cert.Kernel

open Cert.KernelIdeal.Meeting (mate run_main)

/-- The body table does not depend on which of the two printed programs names it, -/
theorem kernel_defs₀ {F : FTy → Type} [FloatOps F] : Cert.Kernel.defs₀ (F := F) = Cert.KernelIdeal.defs₀ (F := F) := by
  refine congrArg Defs.onTc (funext fun l => ?_)
  match l with
  | 0 => exact funext fun _ => rfl

/-- nor does the table with the launch. -/
theorem kernel_defs {F : FTy → Type} [FloatOps F] : Cert.Kernel.defs (F := F) = Cert.KernelIdeal.defs (F := F) :=
  congrArg (Pipeline.defs Cert.KernelIdeal.pcfgs) kernel_defs₀

/-- Every run of the kernel in machine arithmetic ends, with its arguments unchanged and every semaphore at zero. -/
theorem frame_kernel : Cert.quiescent_Kernel := by
  intro m ρ _
  have h := (θ_run Cert.KernelIdeal.defs _ _).mono (fun _ h => And.intro (fun c => (h.1 c).2) h.2) (run_main (F := Bits) m ρ)
  rw [kernel_defs]
  exact h

/-- The same of the kernel in exact arithmetic, -/
theorem frame_kernelIdeal : Cert.quiescent_KernelIdeal := fun m ρ _ =>
  (θ_run Cert.KernelIdeal.defs _ _).mono (fun _ h => ⟨fun c => (h.1 c).2, h.2⟩) (run_main (F := Ideal) m ρ)

/-- and of the reference, which has no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- In exact arithmetic, from blocks of the reference's arguments, every device's result is its block of the reference's. -/
theorem algebraic : Cert.algebraic_KernelIdeal_ReferenceIdeal := by
  intro m g m' g' _ hin
  refine ⟨_, (θ_run Cert.KernelIdeal.defs _ _).mono (fun r h c => ⟨?_, (h.1 c).2⟩) (run_main (F := Ideal) m g),
    (θ_run Cert.ReferenceIdeal.defs _ _).mono (fun r h => ⟨((h 0).1).trans (Cert.ReferenceIdeal.Read.val_main_v12_eq _ _), (h 0).2⟩)
      (Cert.ReferenceIdeal.Value.run (F := Ideal) m' g')⟩
  refine ((h.1 c).1).trans ?_
  rw [(hin c).1, (hin (mate c)).1, (hin c).2]
  exact Cert.Blocks.value c _ _

/-- The certificate: both programs' frames, the (empty) list of rewrites, and equality in exact arithmetic. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
